-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x32x32 : Shape := ⟨4, ![8, 32, 32, 32]⟩
abbrev S8192x32 : Shape := ⟨2, ![8192, 32]⟩
abbrev S_ : Shape := ⟨0, ![]⟩

class Facts : Prop where
  shapeCasts_S8x32x32x32_S8192x32 : S8x32x32x32.ShapeCasts S8192x32
  bcast_S_S8192x32 : S_.BroadcastsInDim S8192x32 (![] : Fin 0 → Fin S8192x32.rank)

variable [Facts]

def fn {F : FTy → Type} [FloatOps F] (main_arg0 : FVec F S8x32x32x32 .f32) (main_arg1 : FVec F S8192x32 .f32) : IVec S8192x32 1 :=
  let main_v0 : FVec F S8192x32 .f32 := shapeCast S8192x32 main_arg0 shapeCasts_S8x32x32x32_S8192x32
  let main_v1 : FVec F S8192x32 .f32 := Host.absf main_v0
  let main_cst : FVec F S_ .f32 := constant S_ .f32 0x7F800000#32
  let main_v2 : FVec F S8192x32 .f32 := broadcastInDim S8192x32 ![] bcast_S_S8192x32 main_cst
  let main_v3 : IVec S8192x32 1 := cmpf .olt main_v1 main_v2
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_v7 : IVec S8192x32 1 := andi main_v3 main_v6
  main_v7
-- ==== Kernel.lean ====
abbrev S8x32x32x32 : Shape := ⟨4, ![8, 32, 32, 32]⟩
abbrev S8192x32 : Shape := ⟨2, ![8192, 32]⟩
abbrev S_ : Shape := ⟨0, ![]⟩
abbrev S8x32x32 : Shape := ⟨3, ![8, 32, 32]⟩
abbrev S8x32x32x1 : Shape := ⟨4, ![8, 32, 32, 1]⟩
abbrev S8192x1 : Shape := ⟨2, ![8192, 1]⟩
abbrev S8192 : Shape := ⟨1, ![8192]⟩
abbrev S1x8192 : Shape := ⟨2, ![1, 8192]⟩
abbrev S2048x32 : Shape := ⟨2, ![2048, 32]⟩
abbrev S2048x1 : Shape := ⟨2, ![2048, 1]⟩
abbrev S2048x8192 : Shape := ⟨2, ![2048, 8192]⟩
abbrev S2048x128 : Shape := ⟨2, ![2048, 128]⟩
abbrev S1x128 : Shape := ⟨2, ![1, 128]⟩
abbrev S2048 : Shape := ⟨1, ![2048]⟩

abbrev nBuf : Space → Nat
  | .hbm => 16
  | .vmem => 9
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8192x32, .f32⟩
  | .hbm, ⟨3, _⟩ => ⟨S8x32x32x32, .f32⟩
  | .hbm, ⟨4, _⟩ => ⟨S_, .f32⟩
  | .hbm, ⟨5, _⟩ => ⟨S8x32x32, .f32⟩
  | .hbm, ⟨6, _⟩ => ⟨S8x32x32x1, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192, .f32⟩
  | .hbm, ⟨13, _⟩ => ⟨S1x8192, .f32⟩
  | .hbm, ⟨14, _⟩ => ⟨S8192x1, .i32⟩
  | .hbm, ⟨15, _⟩ => ⟨S8x32x32, .i32⟩
  | .local _ .vmem, ⟨0, _⟩ => ⟨S2048x32, .f32⟩
  | .local _ .vmem, ⟨1, _⟩ => ⟨S2048x32, .f32⟩
  | .local _ .vmem, ⟨2, _⟩ => ⟨S2048x1, .f32⟩
  | .local _ .vmem, ⟨3, _⟩ => ⟨S2048x1, .f32⟩
  | .local _ .vmem, ⟨4, _⟩ => ⟨S1x8192, .f32⟩
  | .local _ .vmem, ⟨5, _⟩ => ⟨S1x8192, .f32⟩
  | .local _ .vmem, ⟨6, _⟩ => ⟨S8192x32, .f32⟩
  | .local _ .vmem, ⟨7, _⟩ => ⟨S2048x1, .i32⟩
  | .local _ .vmem, ⟨8, _⟩ => ⟨S2048x1, .i32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8x32x32 : Shape := ⟨3, ![8, 32, 32]⟩
abbrev S8x32x32x1 : Shape := ⟨4, ![8, 32, 32, 1]⟩
abbrev S8192 : Shape := ⟨1, ![8192]⟩
abbrev S8x32x32x8192 : Shape := ⟨4, ![8, 32, 32, 8192]⟩
abbrev S1x1x1x8192 : Shape := ⟨4, ![1, 1, 1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S_, .f32⟩
  | .hbm, ⟨4, _⟩ => ⟨S8x32x32, .f32⟩
  | .hbm, ⟨5, _⟩ => ⟨S8x32x32x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S8x32x32x8192, .f32⟩
  | .hbm, ⟨10, _⟩ => ⟨S_, .f32⟩
  | .hbm, ⟨11, _⟩ => ⟨S8x32x32x8192, .f32⟩
  | .hbm, ⟨12, _⟩ => ⟨S8x32x32x8192, .f32⟩
  | .hbm, ⟨13, _⟩ => ⟨S8x32x32x8192, .f32⟩
  | .hbm, ⟨14, _⟩ => ⟨S8x32x32x8192, .f32⟩
  | .hbm, ⟨15, _⟩ => ⟨S1x1x1x8192, .f32⟩
  | .hbm, ⟨16, _⟩ => ⟨S8x32x32x8192, .f32⟩
  | .hbm, ⟨17, _⟩ => ⟨S8x32x32x8192, .f32⟩
  | .hbm, ⟨18, _⟩ => ⟨S_, .f32⟩
  | .hbm, ⟨19, _⟩ => ⟨S8x32x32x8192, .f32⟩
  | .hbm, ⟨20, _⟩ => ⟨S8x32x32x8192, .f32⟩
  | .hbm, ⟨21, _⟩ => ⟨S8x32x32x8192, .f32⟩
  | .hbm, ⟨22, _⟩ => ⟨S8x32x32x8192, .i32⟩
  | .hbm, ⟨23, _⟩ => ⟨S_, .f32⟩
  | .hbm, ⟨24, _⟩ => ⟨S_, .i32⟩
  | .hbm, ⟨25, _⟩ => ⟨S8x32x32, .f32⟩
  | .hbm, ⟨26, _⟩ => ⟨S8x32x32, .i32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.RefRun.lean ====
/-
  The reference's run: what its result buffer holds after it, as one term of its two arguments. The program is a chain
  of host operations; each distance is the square root of the larger of zero and
  `|z|² − 2·z·c + |c|²`, and the result is where it is least over the codes.
-/
module

public import proofs.«01_k».proof.Proof.Gen.ReferenceIdeal
public import Idealize.ShloMosaic.Lib.Claim
public import Idealize.ShloMosaic.PureOps.Ideal

@[expose] public section

noncomputable section

namespace Cert.Proof.RefRun

open Idealize.ShloMosaic Idealize.ShloMosaic.TcCoe Idealize.ShloMosaic.StableHlo Idealize.SL.Sem Cert.ReferenceIdeal
open Cert.ReferenceIdeal.Facts₀

/-- The squared length of every point. -/
def zsq (z : FVec Ideal S8x32x32x32 .f32) : FVec Ideal S8x32x32 .f32 :=
  Host.reduceAdd (mulf z z) (constant S_ .f32 0x00000000#32) reducesTo_S8x32x32x32_S8x32x32_d3 h_S_

/-- The squared length of every code. -/
def csq (c : FVec Ideal S8192x32 .f32) : FVec Ideal S8192 .f32 :=
  Host.reduceAdd (mulf c c) (constant S_ .f32 0x00000000#32) reducesTo_S8192x32_S8192_d1 h_S_

/-- The inner product of every point with every code. -/
def dot (z : FVec Ideal S8x32x32x32 .f32) (c : FVec Ideal S8192x32 .f32) : FVec Ideal S8x32x32x8192 .f32 :=
  Host.dotGeneral dot_S8x32x32x32_S8192x32_S8x32x32x8192_3_1_012_0_n_n none z c

/-- The squared distance of every point to every code, as the reference expands it. -/
def sq (z : FVec Ideal S8x32x32x32 .f32) (c : FVec Ideal S8192x32 .f32) : FVec Ideal S8x32x32x8192 .f32 :=
  addf
    (subf
      (broadcastInDim S8x32x32x8192 ![0, 1, 2, 3] bcast_S8x32x32x1_S8x32x32x8192_0_1_2_3
        (broadcastInDim S8x32x32x1 ![0, 1, 2] bcast_S8x32x32_S8x32x32x1_0_1_2 (zsq z)))
      (mulf (broadcastInDim S8x32x32x8192 ![] bcast_S_S8x32x32x8192 (constant S_ .f32 0x40000000#32)) (dot z c)))
    (broadcastInDim S8x32x32x8192 ![0, 1, 2, 3] bcast_S1x1x1x8192_S8x32x32x8192_0_1_2_3
      (broadcastInDim S1x1x1x8192 ![3] bcast_S8192_S1x1x1x8192_3 (csq c)))

/-- The distance: the square root of the larger of that and zero. -/
def dist (z : FVec Ideal S8x32x32x32 .f32) (c : FVec Ideal S8192x32 .f32) : FVec Ideal S8x32x32x8192 .f32 :=
  Host.sqrt (maximumf (sq z c) (broadcastInDim S8x32x32x8192 ![] bcast_S_S8x32x32x8192 (constant S_ .f32 0x00000000#32)))

/-- Where the distance is least: the array the reference returns. -/
def out (z : FVec Ideal S8x32x32x32 .f32) (c : FVec Ideal S8192x32 .f32) : IVec S8x32x32 32 := fun j =>
  (Host.argReduce reducer_argmin_f32_i32 (dist z c) (iotaInDim S8x32x32x8192 32 3) (constant S_ .f32 0x7F800000#32)
    (constantI S_ 32 0#32) reducesTo_S8x32x32x8192_S8x32x32_d3 h_S_ j).2

/-- The reference ends holding `out` of its arguments, which it leaves as they were. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals rfl

/-- The reference's frame, with its counters, of which it declares none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run_main m ρ)

end Cert.Proof.RefRun

end
-- ==== Proof.Dist.lean ====
/-
  The squared distance over the real numbers, `sqd p q = Σ p² − 2·Σ p·q + Σ q²`. It is a sum of squares, so never negative
  (`sqd_nonneg`), and on it the root of the larger of it and zero keeps the order. The two programs expand it
  differently: the reference as above (`sqd_ref`), the kernel with the factor −2 inside the inner product
  (`sqd_kernel`); at numbers that are finite the two agree.
-/
module

public import Idealize.ShloMosaic.PureOps.Ideal
public import Idealize.ShloMosaic.PureOps.Ideal.Laws
public import Idealize.ShloMosaic.Lib.ValueIdxCore

@[expose] public section

noncomputable section

namespace Cert.Proof

open Idealize.ShloMosaic Idealize.ShloMosaic.ValueIdx

/-- The squared distance of two points, expanded. -/
def sqd (p q : Fin 32 → ℝ) : ℝ := (∑ e, p e * p e) - 2 * (∑ e, p e * q e) + ∑ e, q e * q e

theorem sqd_nonneg (p q : Fin 32 → ℝ) : 0 ≤ sqd p q := by
  have h : sqd p q = ∑ e, (p e - q e) * (p e - q e) := by
    unfold sqd
    rw [Finset.mul_sum, ← Finset.sum_sub_distrib, ← Finset.sum_add_distrib]
    exact Finset.sum_congr rfl fun e _ => by ring
  rw [h]
  exact Finset.sum_nonneg fun e _ => mul_self_nonneg _

/-- A sum of real numbers, taken among the extended ones. -/
theorem sum_coe (f : Fin 32 → ℝ) : ∑ e, ((f e : ℝ) : EReal) = ((∑ e, f e : ℝ) : EReal) := by
  have h : ∀ s : Finset (Fin 32), ∑ e ∈ s, ((f e : ℝ) : EReal) = ((∑ e ∈ s, f e : ℝ) : EReal) := fun s => by
    induction s using Finset.induction_on with
    | empty => simp
    | insert a s ha ih => rw [Finset.sum_insert ha, Finset.sum_insert ha, ih, EReal.coe_add]
  exact h _

theorem sum_mul_coe (f g : Fin 32 → ℝ) : ∑ e, ((f e : ℝ) : EReal) * ((g e : ℝ) : EReal) = ((∑ e, f e * g e : ℝ) : EReal) := by
  rw [← sum_coe]
  exact Finset.sum_congr rfl fun e _ => (EReal.coe_mul _ _).symm

theorem ofBits_two : Ideal.ofBits .f32 0x40000000#32 = ((2 : ℝ) : EReal) := by
  simp [Ideal.ofBits, Ideal.ieee]
  rw [← EReal.coe_mul]; norm_num

theorem ofBits_neg_two : Ideal.ofBits .f32 0xC0000000#32 = ((-2 : ℝ) : EReal) := by
  simp [Ideal.ofBits, Ideal.ieee]
  rw [← EReal.coe_mul]; norm_num

theorem ofBits_inf : Ideal.ofBits .f32 0x7F800000#32 = ⊤ := by
  simp [Ideal.ofBits, Ideal.ieee]

/-- The number that stands for no index: 30000000. -/
theorem ofBits_far : Ideal.ofBits .f32 0x4BE4E1C0#32 = ((30000000 : ℝ) : EReal) := by
  simp [Ideal.ofBits, Ideal.ieee]
  rw [← EReal.coe_mul]; norm_num

/-- As the reference expands it. -/
theorem sqd_ref (p q : Fin 32 → ℝ) :
    (0 + ∑ e, ((p e : ℝ) : EReal) * ((p e : ℝ) : EReal)) - ((2 : ℝ) : EReal) * (∑ e, ((p e : ℝ) : EReal) * ((q e : ℝ) : EReal))
      + (0 + ∑ e, ((q e : ℝ) : EReal) * ((q e : ℝ) : EReal)) = ((sqd p q : ℝ) : EReal) := by
  simp only [sum_mul_coe, zero_add]
  rw [← EReal.coe_mul, ← EReal.coe_sub, ← EReal.coe_add, sqd]

/-- As the kernel expands it. -/
theorem sqd_kernel (p q : Fin 32 → ℝ) :
    (0 + ∑ e, ((p e : ℝ) : EReal) * ((p e : ℝ) : EReal)) + (∑ e, (((p e : ℝ) : EReal) * ((-2 : ℝ) : EReal)) * ((q e : ℝ) : EReal))
      + (0 + ∑ e, ((q e : ℝ) : EReal) * ((q e : ℝ) : EReal)) = ((sqd p q : ℝ) : EReal) := by
  have h : ∑ e, (((p e : ℝ) : EReal) * ((-2 : ℝ) : EReal)) * ((q e : ℝ) : EReal)
      = ((∑ e, (p e * -2) * q e : ℝ) : EReal) := by
    simp only [← EReal.coe_mul, sum_coe]
  simp only [sum_mul_coe, zero_add, h]
  rw [← EReal.coe_add, ← EReal.coe_add, sqd]
  congr 2
  rw [sub_eq_add_neg, Finset.mul_sum, ← Finset.sum_neg_distrib]
  congr 1
  exact Finset.sum_congr rfl fun e _ => by ring

/-- The root of the larger of a number at least zero and zero. -/
theorem root_coe (x : ℝ) (h : 0 ≤ x) : Ideal.sqrt (max ((x : ℝ) : EReal) 0) = ((Real.sqrt x : ℝ) : EReal) := by
  rw [max_eq_left (by exact_mod_cast h), Ideal.sqrt_coe, if_neg (not_lt.2 h)]

/-- The real numbers of point (a, b, c). -/
def pt (z : (⟨4, ![8, 32, 32, 32]⟩ : Shape).Idx → EReal) (a : Fin 8) (b c : Fin 32) : Fin 32 → ℝ :=
  fun e => (z (ix4 a b c e)).toReal

/-- The real numbers of code `k`. -/
def cd (w : (⟨2, ![8192, 32]⟩ : Shape).Idx → EReal) (k : ℕ) : Fin 32 → ℝ :=
  fun e => (w (ix2 ⟨k % 8192, Nat.mod_lt _ (by decide)⟩ e)).toReal

/-- The squared distance of point (a, b, c) to code `k`. -/
def far (z : (⟨4, ![8, 32, 32, 32]⟩ : Shape).Idx → EReal) (w : (⟨2, ![8192, 32]⟩ : Shape).Idx → EReal)
    (a : Fin 8) (b c : Fin 32) (k : ℕ) : ℝ := sqd (pt z a b c) (cd w k)

end Cert.Proof

end
-- ==== Proof.Best.lean ====
/-
  The least index of a least value, and the ways of finding it. `Best d P k`: among the indices satisfying `P`, `k` has
  the least value `d k`, and is the least index that does. There is at most one such index (`Best.unique`), so two
  searches that both end at one agree. Proved here of the two: a running minimum along a list of slices (`lane`), the
  reduction of 128 of them (`row`), the comparison of two stretches (`Best.later`, `Best.earlier`), and a fold in any
  order whose step keeps the lesser of two (value, index) pairs (`fold_pairs`).
-/
module

public import Idealize.ShloMosaic.PureOps.Ideal
public import Idealize.ShloMosaic.PureOps.Ideal.Laws

@[expose] public section

noncomputable section

namespace Cert.Proof

open Idealize.ShloMosaic

/-- `k` is the least index, among those satisfying `P`, at which `d` is least. -/
def Best (d : ℕ → ℝ) (P : ℕ → Prop) (k : ℕ) : Prop :=
  P k ∧ ∀ i, P i → d k < d i ∨ (d k = d i ∧ k ≤ i)

namespace Best

variable {d : ℕ → ℝ} {P Q : ℕ → Prop} {a b : ℕ}

theorem unique (ha : Best d P a) (hb : Best d P b) : a = b := by
  rcases ha.2 b hb.1 with h | ⟨h, h'⟩ <;> rcases hb.2 a ha.1 with g | ⟨g, g'⟩
  · exact absurd h (not_lt.2 g.le)
  · exact absurd h (g ▸ lt_irrefl _)
  · exact absurd g (h ▸ lt_irrefl _)
  · omega

theorem congr (ha : Best d P a) (h : ∀ i, P i ↔ Q i) : Best d Q a :=
  ⟨(h a).1 ha.1, fun i hi => ha.2 i ((h i).2 hi)⟩

/-- A strictly better second winner wins the union. -/
theorem later (ha : Best d P a) (hb : Best d Q b) (h : d b < d a) : Best d (fun i => P i ∨ Q i) b :=
  ⟨.inr hb.1, fun i hi => hi.elim
    (fun hi => .inl ((ha.2 i hi).elim (fun g => h.trans g) (fun g => g.1 ▸ h))) (hb.2 i)⟩

/-- A first winner no worse than the second wins the union, the second's indices all coming after. -/
theorem earlier (ha : Best d P a) (hb : Best d Q b) (h : ¬ d b < d a) (hPQ : ∀ i, Q i → a ≤ i) :
    Best d (fun i => P i ∨ Q i) a :=
  ⟨.inl ha.1, fun i hi => hi.elim (ha.2 i) (fun hi => by
    rcases hb.2 i hi with g | ⟨g, _⟩
    · exact .inl (lt_of_le_of_lt (not_lt.1 h) g)
    · rcases (not_lt.1 h).lt_or_eq with e | e
      · exact .inl (g ▸ e)
      · exact .inr ⟨e.trans g, hPQ i hi⟩)⟩

/-- The one index of a set of one. -/
theorem single (k : ℕ) : Best d (fun i => i = k) k := ⟨rfl, fun i hi => .inr (by rw [hi]; exact ⟨rfl, le_rfl⟩)⟩

end Best

/-- One lane's step: the least value so far and its index, a strictly lesser value replacing both. -/
def take (s : EReal × EReal) (x c : EReal) : EReal × EReal := (min s.1 x, if x < s.1 then c else s.2)

/-- One lane along slices in order ends at the best of the indices it met. -/
theorem lane (d : ℕ → ℝ) (l : ℕ) : ∀ js : List (Fin 64), js ≠ [] → js.Pairwise (· < ·) →
    ∃ k : ℕ, Best d (fun i => ∃ j ∈ js, i = 128 * j.val + l) k ∧
      js.foldl (fun s j => take s ((d (128 * j.val + l) : ℝ) : EReal) (((128 * j.val + l : ℕ) : ℝ) : EReal)) (⊤, 0)
        = (((d k : ℝ) : EReal), ((k : ℝ) : EReal)) := by
  intro js
  induction js using List.reverseRecOn with
  | nil => intro h; exact absurd rfl h
  | append_singleton js j ih =>
    intro _ hp
    rw [List.pairwise_append] at hp
    rw [List.foldl_append]
    simp only [List.foldl_cons, List.foldl_nil]
    by_cases hn : js = []
    · subst hn
      exact ⟨128 * j.val + l, (Best.single _).congr (fun i => by simp), by
        simp [take, EReal.coe_lt_top]⟩
    · obtain ⟨k, hk, hf⟩ := ih hn hp.1
      rw [hf]
      by_cases hlt : d (128 * j.val + l) < d k
      · refine ⟨128 * j.val + l, (hk.later (Best.single _) hlt).congr (fun i => by simp [or_and_right, exists_or]), ?_⟩
        have h' : ((d (128 * j.val + l) : ℝ) : EReal) < ((d k : ℝ) : EReal) := by exact_mod_cast hlt
        simp only [take, if_pos h', min_eq_right h'.le]
      · refine ⟨k, (hk.earlier (Best.single _) hlt (fun i hi => ?_)).congr
          (fun i => by simp [or_and_right, exists_or]), ?_⟩
        · obtain ⟨j', hj', e⟩ := hk.1
          have := hp.2.2 j' hj' j (by simp)
          have : j'.val < j.val := this
          omega
        · have h' : ¬ ((d (128 * j.val + l) : ℝ) : EReal) < ((d k : ℝ) : EReal) := by exact_mod_cast hlt
          simp only [take, if_neg h', min_eq_left (not_lt.1 h')]

/-- The 128 lanes of a stretch, each at its best, reduced to the best of them all: the least value, then the least index
    among the lanes that hold it, the others standing at a number above every index. -/
theorem row (d : ℕ → ℝ) (js : List (Fin 64)) (k : Fin 128 → ℕ)
    (hk : ∀ l : Fin 128, Best d (fun i => ∃ j ∈ js, i = 128 * j.val + l.val) (k l)) (big : ℝ) (hbig : 8192 ≤ big) :
    ∃ b : ℕ, Best d (fun i => ∃ j ∈ js, ∃ l : Fin 128, i = 128 * j.val + l.val) b ∧
      (Finset.univ : Finset (Fin 128)).fold min (⊤ : EReal) (fun l => ((d (k l) : ℝ) : EReal)) = ((d b : ℝ) : EReal) ∧
      (Finset.univ : Finset (Fin 128)).fold min (⊤ : EReal)
          (fun l => if ((d (k l) : ℝ) : EReal) = ((d b : ℝ) : EReal) then ((k l : ℝ) : EReal) else ((big : ℝ) : EReal))
        = ((b : ℝ) : EReal) := by
  obtain ⟨l₀, h₀⟩ := Finite.exists_min (fun l : Fin 128 => toLex (d (k l), k l))
  have h₀' : ∀ l, d (k l₀) < d (k l) ∨ (d (k l₀) = d (k l) ∧ k l₀ ≤ k l) := fun l => by
    have := h₀ l
    rwa [Prod.Lex.toLex_le_toLex] at this
  have hlt : (k l₀ : ℝ) ≤ big := by
    obtain ⟨j, _, e⟩ := (hk l₀).1
    have : k l₀ ≤ 8192 := by have := j.isLt; have := l₀.isLt; omega
    exact le_trans (by exact_mod_cast this) hbig
  refine ⟨k l₀, ⟨?_, ?_⟩, ?_, ?_⟩
  · obtain ⟨j, hj, e⟩ := (hk l₀).1
    exact ⟨j, hj, l₀, e⟩
  · rintro i ⟨j, hj, l, e⟩
    rcases h₀' l with g | ⟨g, g'⟩ <;> rcases (hk l).2 i ⟨j, hj, e⟩ with f | ⟨f, f'⟩
    · exact .inl (g.trans f)
    · exact .inl (f ▸ g)
    · exact .inl (g ▸ f)
    · exact .inr ⟨g.trans f, g'.trans f'⟩
  · apply le_antisymm
    · exact Finset.fold_min_le _ |>.2 (.inr ⟨l₀, Finset.mem_univ _, le_rfl⟩)
    · refine Finset.le_fold_min _ |>.2 ⟨le_top, fun l _ => ?_⟩
      rcases h₀' l with g | g
      · exact_mod_cast g.le
      · exact_mod_cast g.1.le
  · apply le_antisymm
    · exact Finset.fold_min_le _ |>.2 (.inr ⟨l₀, Finset.mem_univ _, by simp⟩)
    · refine Finset.le_fold_min _ |>.2 ⟨le_top, fun l _ => ?_⟩
      by_cases e : d (k l) = d (k l₀)
      · rw [if_pos (by rw [e])]
        rcases h₀' l with g | g
        · exact absurd g (e ▸ lt_irrefl _)
        · exact_mod_cast g.2
      · rw [if_neg (by exact_mod_cast e)]
        exact_mod_cast hlt

/-- A fold that keeps the lesser of two pairs, in whatever order they come, ends at the best of the indices met. -/
theorem fold_pairs {β : Type} (d : ℕ → ℝ) (f : EReal × β → EReal × β → EReal × β) (g : ℕ → EReal × β) (top : EReal × β)
    (N : ℕ) (hf₀ : ∀ k < N, f top (g k) = g k)
    (hf : ∀ a < N, ∀ b < N, f (g a) (g b) = if d a < d b ∨ (d a = d b ∧ a < b) then g a else g b) :
    ∀ ks : List ℕ, ks ≠ [] → (∀ k ∈ ks, k < N) → ∃ k, Best d (· ∈ ks) k ∧ (ks.map g).foldl f top = g k := by
  intro ks
  induction ks using List.reverseRecOn with
  | nil => intro h; exact absurd rfl h
  | append_singleton ks b ih =>
    intro _ hN
    rw [List.map_append, List.foldl_append]
    simp only [List.map_cons, List.map_nil, List.foldl_cons, List.foldl_nil]
    have hb : b < N := hN b (by simp)
    by_cases hn : ks = []
    · subst hn
      exact ⟨b, (Best.single _).congr (fun i => by simp), by simp [hf₀ b hb]⟩
    · obtain ⟨a, ha, e⟩ := ih hn (fun k hk => hN k (by simp [hk]))
      rw [e, hf a (hN a (by simp [ha.1])) b hb]
      by_cases hc : d a < d b ∨ (d a = d b ∧ a < b)
      · rw [if_pos hc]
        refine ⟨a, ⟨by simp [ha.1], fun i hi => ?_⟩, rfl⟩
        rcases List.mem_append.1 hi with h | h
        · exact ha.2 i h
        · rw [List.mem_singleton.1 h]
          exact hc.imp_right (fun h => ⟨h.1, h.2.le⟩)
      · rw [if_neg hc]
        refine ⟨b, ⟨by simp, fun i hi => ?_⟩, rfl⟩
        rcases List.mem_append.1 hi with h | h
        · push Not at hc
          rcases hc.1.lt_or_eq with g | g
          · rcases ha.2 i h with g' | g'
            · exact .inl (g.trans g')
            · exact .inl (g'.1 ▸ g)
          · have := hc.2 g.symm
            rcases ha.2 i h with g' | g'
            · exact .inl (g ▸ g')
            · exact .inr ⟨g.trans g'.1, this.trans g'.2⟩
        · rw [List.mem_singleton.1 h]
          exact .inr ⟨rfl, le_rfl⟩

end Cert.Proof

end
-- ==== Proof.RefRead.lean ====
/-
  What the reference returns, read at an index: the least index of the least squared distance. Its squared distance at an
  index is the real number `far` (`sq_apply`), and its result a fold, over the codes, of a step that keeps the lesser of two
  (distance, index) pairs (`out_best`).
-/
module

public import proofs.«01_k».proof.Proof.RefRun
public import proofs.«01_k».proof.Proof.Dist
public import proofs.«01_k».proof.Proof.Best
public import Idealize.ShloMosaic.Lib.Pipeline.Value

@[expose] public section

noncomputable section

namespace Cert.Proof.RefRead

open Idealize.ShloMosaic Idealize.ShloMosaic.ValueIdx Cert.ReferenceIdeal Cert.Proof

variable (z : FVec Ideal S8x32x32x32 .f32) (w : FVec Ideal S8192x32 .f32)
variable (a : Fin 8) (b c : Fin 32) (k : Fin 8192)

theorem zsq_apply : RefRun.zsq z (ix3 a b c) = 0 + ∑ e : Fin 32, z (ix4 a b c e) * z (ix4 a b c e) := by
  have h : S8x32x32x32.Reduces [3] S8x32x32 := by decide
  show Ideal.hostReduceAdd _ _ _ _ = _
  rw [Ideal.hostReduceAdd_single _ h]
  congr 1
  · exact Ideal.ofBits_zero_f32
  · refine Finset.sum_congr rfl fun e _ => ?_
    have : h.lift (ix3 a b c) e = ix4 a b c e := by funext d; fin_cases d <;> rfl
    rw [this]; rfl

theorem csq_apply : RefRun.csq w (ix1 k) = 0 + ∑ e : Fin 32, w (ix2 k e) * w (ix2 k e) := by
  have h : S8192x32.Reduces [1] S8192 := by decide
  show Ideal.hostReduceAdd _ _ _ _ = _
  rw [Ideal.hostReduceAdd_single _ h]
  congr 1
  · exact Ideal.ofBits_zero_f32
  · refine Finset.sum_congr rfl fun e _ => ?_
    have : h.lift (ix1 k) e = ix2 k e := by funext d; fin_cases d <;> rfl
    rw [this]; rfl

theorem dot_apply : RefRun.dot z w (ix4 a b c k) = ∑ e : Fin 32, z (ix4 a b c e) * w (ix2 k e) := by
  show FloatOps.dotGeneral _ _ _ z w _ = _
  rw [Ideal.dotGeneral_apply]
  rw [← Equiv.sum_comp (contrEquiv1 dot_S8x32x32x32_S8192x32_S8x32x32x8192_3_1_012_0_n_n 32 rfl rfl).symm]
  refine Finset.sum_congr rfl fun e _ => ?_
  congr 2
  · funext d; fin_cases d <;> rfl
  · funext d; fin_cases d <;> rfl

variable {z w}

/-- The squared distance, every number being finite. -/
theorem sq_apply (hz : ∀ i, z i = (((z i).toReal : ℝ) : EReal)) (hw : ∀ i, w i = (((w i).toReal : ℝ) : EReal)) :
    RefRun.sq z w (ix4 a b c k) = ((far z w a b c k.val : ℝ) : EReal) := by
  have h : RefRun.sq z w (ix4 a b c k)
      = RefRun.zsq z (ix3 a b c) - Ideal.ofBits .f32 0x40000000#32 * RefRun.dot z w (ix4 a b c k) + RefRun.csq w (ix1 k) := by
    unfold RefRun.sq
    show broadcastInDim _ _ _ _ _ - broadcastInDim _ _ _ _ _ * _ + broadcastInDim _ _ _ _ _ = _
    rw [broadcastInDim_apply _ _ _ _ (ix4 a b c (0 : Fin 1)) (fun d => by fin_cases d <;> rfl),
      broadcastInDim_apply _ _ _ _ (ix3 a b c) (fun d => by fin_cases d <;> rfl),
      broadcastInDim_apply _ _ _ _ ix0 (fun d => d.elim0),
      broadcastInDim_apply _ _ _ _ (ix4 (0 : Fin 1) (0 : Fin 1) (0 : Fin 1) k) (fun d => by fin_cases d <;> rfl),
      broadcastInDim_apply _ _ _ _ (ix1 k) (fun d => by fin_cases d <;> rfl)]
    rfl
  have hk : (⟨k.val % 8192, Nat.mod_lt _ (by decide)⟩ : Fin 8192) = k := Fin.ext (Nat.mod_eq_of_lt k.isLt)
  have hz' : ∀ e, z (ix4 a b c e) = ((pt z a b c e : ℝ) : EReal) := fun e => hz _
  have hw' : ∀ e, w (ix2 k e) = ((cd w k.val e : ℝ) : EReal) := fun e => by rw [cd, hk]; exact hw _
  rw [h, zsq_apply, csq_apply, dot_apply, ofBits_two]
  simp only [hz', hw']
  exact sqd_ref _ _

/-- The distance at an index. -/
theorem dist_apply (hz : ∀ i, z i = (((z i).toReal : ℝ) : EReal)) (hw : ∀ i, w i = (((w i).toReal : ℝ) : EReal)) :
    RefRun.dist z w (ix4 a b c k) = ((Real.sqrt (far z w a b c k.val) : ℝ) : EReal) := by
  unfold RefRun.dist
  show Ideal.sqrt (max (RefRun.sq z w (ix4 a b c k)) (broadcastInDim _ _ _ _ _)) = _
  rw [broadcastInDim_apply _ _ _ _ ix0 (fun d => d.elim0), sq_apply a b c k hz hw]
  show Ideal.sqrt (max _ (Ideal.ofBits .f32 0x00000000#32)) = _
  rw [Ideal.ofBits_zero_f32]
  exact root_coe _ (sqd_nonneg _ _)

/-- The pair of code `i`: its distance and its index as a word. -/
def pair (d : ℕ → ℝ) (i : ℕ) : EReal × BitVec 32 := (((Real.sqrt (d i) : ℝ) : EReal), BitVec.ofNat 32 i)

theorem reducer_eq (x y : EReal × BitVec 32) :
    reducer_argmin_f32_i32 (F := Ideal) x y
      = (if x.1 < y.1 then x.1 else y.1, if x.1 < y.1 ∨ (x.1 = y.1 ∧ x.2.slt y.2) then x.2 else y.2) := by
  unfold reducer_argmin_f32_i32
  simp only [Ideal.cmpf_def, Ideal.cmp, Scalar.select]
  by_cases h1 : x.1 < y.1 <;> by_cases h2 : x.1 = y.1 <;> by_cases h3 : x.2.slt y.2 <;>
    simp [h1, h2, h3, IntOp.ori, IntOp.andi, IntOp.cmpi]

theorem reducer_top (d : ℕ → ℝ) (i : ℕ) : reducer_argmin_f32_i32 (F := Ideal) (⊤, 0#32) (pair d i) = pair d i := by
  rw [reducer_eq]
  simp [pair]

theorem slt_ofNat {i j : ℕ} (hi : i < 8192) (hj : j < 8192) : (BitVec.ofNat 32 i).slt (BitVec.ofNat 32 j) = decide (i < j) := by
  rw [BitVec.slt]
  congr 1
  have h : ∀ n < 8192, (BitVec.ofNat 32 n).toInt = n := fun n hn => by
    rw [BitVec.toInt_eq_toNat_of_lt] <;> simp only [BitVec.toNat_ofNat] <;> omega
  rw [h i hi, h j hj, Nat.cast_lt]

theorem reducer_pair (d : ℕ → ℝ) (hd : ∀ i, 0 ≤ d i) (i : ℕ) (hi : i < 8192) (j : ℕ) (hj : j < 8192) :
    reducer_argmin_f32_i32 (F := Ideal) (pair d i) (pair d j)
      = if d i < d j ∨ (d i = d j ∧ i < j) then pair d i else pair d j := by
  have h1 : (((Real.sqrt (d i) : ℝ) : EReal) < ((Real.sqrt (d j) : ℝ) : EReal)) ↔ d i < d j := by
    rw [EReal.coe_lt_coe_iff, Real.sqrt_lt_sqrt_iff (hd i)]
  have h2 : (((Real.sqrt (d i) : ℝ) : EReal) = ((Real.sqrt (d j) : ℝ) : EReal)) ↔ d i = d j := by
    rw [EReal.coe_eq_coe_iff, Real.sqrt_inj (hd i) (hd j)]
  rw [reducer_eq]
  simp only [pair, h1, h2, slt_ofNat hi hj, decide_eq_true_eq]
  by_cases h : d i < d j
  · simp [h]
  · by_cases g : d i = d j ∧ i < j
    · simp only [h, g, g.1]; simp
    · simp [h, g]

/-- A two-operand reduction along one axis, of any shape, whose step keeps the lesser of two pairs: at an index it is the
    pair of the best position along the axis. -/
theorem reduce2_best {s t u : Shape} {ax : Fin s.rank} (h' : s.ReducesTo [ax] t) (h : s.Reduces [ax] t)
    (f : EReal × BitVec 32 → EReal × BitVec 32 → EReal × BitVec 32) (x : s.Idx → EReal) (y : s.Idx → BitVec 32)
    (ix : u.Idx → EReal) (iy : u.Idx → BitVec 32) (hu : 0 < u.numel) (j : t.Idx) (d : ℕ → ℝ) (g : ℕ → EReal × BitVec 32)
    (hpos : 0 < s.size ax) (hx : ∀ k : Fin (s.size ax), (x (h.lift j k), y (h.lift j k)) = g k.val)
    (hf₀ : ∀ k < s.size ax, f (ix (Shape.Idx.first hu), iy (Shape.Idx.first hu)) (g k) = g k)
    (hf : ∀ a < s.size ax, ∀ b < s.size ax, f (g a) (g b) = if d a < d b ∨ (d a = d b ∧ a < b) then g a else g b) :
    ∃ i, Best d (· < s.size ax) i ∧ Host.reduce2 f x y ix iy h' hu j = g i := by
  have hmem : ∀ k, k ∈ ((List.finRange s.numel).filter (fun n => h'.drop (s.rowMajor.symm n) = j)).map
      (fun n => ((s.rowMajor.symm n) ax).val) ↔ k < s.size ax := fun k => by
    constructor
    · intro hk
      obtain ⟨n, _, rfl⟩ := List.mem_map.1 hk
      exact ((s.rowMajor.symm n) ax).isLt
    · intro hk
      refine List.mem_map.2 ⟨s.rowMajor (h.lift j ⟨k, hk⟩), List.mem_filter.2 ⟨List.mem_finRange _, ?_⟩, ?_⟩
      · rw [Equiv.symm_apply_apply, Shape.ReducesTo.drop_eq_drop _ h, h.drop_lift]
        simp
      · rw [Equiv.symm_apply_apply, h.lift_val]
        simp [Shape.Reduces.liftVal]
  obtain ⟨i, hi, e⟩ := fold_pairs d f g (ix (Shape.Idx.first hu), iy (Shape.Idx.first hu)) (s.size ax) hf₀ hf _
    (List.ne_nil_of_mem ((hmem 0).2 hpos)) (fun k hk => (hmem k).1 hk)
  refine ⟨i, hi.congr hmem, ?_⟩
  rw [Host.reduce2_eq_foldl_fiber, Host.argReduceFiber, ← e, List.map_map]
  congr 1
  refine List.map_congr_left fun n hn => ?_
  have hn := of_decide_eq_true (List.mem_filter.1 hn).2
  rw [Shape.ReducesTo.drop_eq_drop _ h] at hn
  have e := h.lift_drop (s.rowMajor.symm n)
  rw [hn] at e
  have e' := hx ((s.rowMajor.symm n) ax)
  rw [e] at e'
  exact e'

theorem init_eq : (constant (F := Ideal) S_ .f32 0x7F800000#32 (Shape.Idx.first Facts₀.h_S_),
      constantI S_ 32 0#32 (Shape.Idx.first Facts₀.h_S_)) = ((⊤ : EReal), 0#32) := Prod.ext ofBits_inf rfl

theorem reduces_codes : S8x32x32x8192.Reduces [3] S8x32x32 := by decide

theorem lift_codes (k : Fin 8192) : reduces_codes.lift (ix3 a b c) k = ix4 a b c k := by funext d; fin_cases d <;> rfl

/-- What the reduction meets at code `k`: the distance and the index. -/
theorem pair_apply (hz : ∀ i, z i = (((z i).toReal : ℝ) : EReal)) (hw : ∀ i, w i = (((w i).toReal : ℝ) : EReal))
    (k : Fin 8192) : (RefRun.dist z w (reduces_codes.lift (ix3 a b c) k),
      iotaInDim S8x32x32x8192 32 3 (reduces_codes.lift (ix3 a b c) k)) = pair (far z w a b c) k.val := by
  have e := lift_codes a b c k
  refine Prod.ext ((congrArg (RefRun.dist z w) e).trans (dist_apply a b c k hz hw)) ?_
  exact congrArg (iotaInDim S8x32x32x8192 32 3) e

/-- The step between two codes' pairs. -/
theorem reducer_codes : ∀ i < S8x32x32x8192.size 3, ∀ j < S8x32x32x8192.size 3,
    reducer_argmin_f32_i32 (F := Ideal) (pair (far z w a b c) i) (pair (far z w a b c) j)
      = if far z w a b c i < far z w a b c j ∨ (far z w a b c i = far z w a b c j ∧ i < j) then pair (far z w a b c) i
        else pair (far z w a b c) j := reducer_pair _ fun _ => sqd_nonneg _ _

/-- The step from the initial pair. -/
theorem reducer_init : ∀ k < S8x32x32x8192.size 3, reducer_argmin_f32_i32 (F := Ideal) (constant (F := Ideal) S_ .f32 0x7F800000#32 (Shape.Idx.first Facts₀.h_S_),
      constantI S_ 32 0#32 (Shape.Idx.first Facts₀.h_S_)) (pair (far z w a b c) k) = pair (far z w a b c) k :=
    fun k _ => (congrArg (fun t => reducer_argmin_f32_i32 (F := Ideal) t _) init_eq).trans (reducer_top _ k)

theorem codes_pos : 0 < S8x32x32x8192.size 3 := show 0 < 8192 by decide

/-- The reduction along the codes is the pair of the best code. -/
theorem reduce_codes (hz : ∀ i, z i = (((z i).toReal : ℝ) : EReal)) (hw : ∀ i, w i = (((w i).toReal : ℝ) : EReal)) :
    ∃ i, Best (far z w a b c) (· < S8x32x32x8192.size 3) i ∧ Host.reduce2 (reducer_argmin_f32_i32 (F := Ideal))
    (RefRun.dist z w) (iotaInDim S8x32x32x8192 32 3) (constant (F := Ideal) S_ .f32 0x7F800000#32) (constantI S_ 32 0#32)
    Facts₀.reducesTo_S8x32x32x8192_S8x32x32_d3 Facts₀.h_S_ (ix3 a b c) = pair (far z w a b c) i :=
  reduce2_best Facts₀.reducesTo_S8x32x32x8192_S8x32x32_d3 reduces_codes
    (reducer_argmin_f32_i32 (F := Ideal))
    (RefRun.dist z w) (iotaInDim S8x32x32x8192 32 3) (constant (F := Ideal) S_ .f32 0x7F800000#32) (constantI S_ 32 0#32)
    Facts₀.h_S_ (ix3 a b c) (far z w a b c) (pair (far z w a b c)) codes_pos (pair_apply a b c hz hw)
    (reducer_init a b c)
    (reducer_codes a b c)

/-- The reference's result as that reduction's second half. -/
theorem out_eq : RefRun.out z w = fun j => (Host.reduce2 (reducer_argmin_f32_i32 (F := Ideal))
    (RefRun.dist z w) (iotaInDim S8x32x32x8192 32 3) (constant (F := Ideal) S_ .f32 0x7F800000#32) (constantI S_ 32 0#32)
    Facts₀.reducesTo_S8x32x32x8192_S8x32x32_d3 Facts₀.h_S_ j).2 :=
  congrArg (fun r => fun j => (r j).2) (Ideal.argReduce_eq_reduce2 (reducer_argmin_f32_i32 (F := Ideal))
    (RefRun.dist z w) (iotaInDim S8x32x32x8192 32 3) (constant (F := Ideal) S_ .f32 0x7F800000#32) (constantI S_ 32 0#32)
    Facts₀.reducesTo_S8x32x32x8192_S8x32x32_d3 Facts₀.h_S_)

/-- The reference's result at an index is the least index of the least distance. -/
theorem out_best (hz : ∀ i, z i = (((z i).toReal : ℝ) : EReal)) (hw : ∀ i, w i = (((w i).toReal : ℝ) : EReal)) :
    ∃ i, Best (far z w a b c) (· < 8192) i ∧ RefRun.out z w (ix3 a b c) = BitVec.ofNat 32 i := by
  obtain ⟨i, hi, e⟩ := reduce_codes a b c hz hw
  exact ⟨i, hi, (congrFun out_eq _).trans (congrArg Prod.snd e)⟩

end Cert.Proof.RefRead

end
-- ==== Proof.Entry.lean ====
/-
  What the kernel's pallas_call is given. The lines before it write four arrays: the points as rows, the sums of the
  points' squares and of the codes' squares, and the code numbers. Each is stated as a function of the arguments
  (`V_points` …) and read at an index (`points_apply` …). Row `n` is point (a, b, c) where n = 1024a + 32b + c.
-/
module

public import proofs.«01_k».proof.Proof.Gen.KernelIdeal.Frame
public import Idealize.ShloMosaic.PureOps.Ideal.Laws
public import Idealize.ShloMosaic.Lib.ValueIdxCore
public import Idealize.ShloMosaic.Lib.Pipeline.Value

@[expose] public section

noncomputable section

namespace Cert.Proof.Entry

open Idealize.ShloMosaic Idealize.ShloMosaic.TcCoe Idealize.ShloMosaic.ValueIdx Cert.KernelIdeal Cert.KernelIdeal.Gen

/-- The points as rows. -/
def points (z : FVec Ideal S8x32x32x32 .f32) : FVec Ideal S8192x32 .f32 := shapeCast S8192x32 z shapeCasts_S8x32x32x32_S8192x32

/-- The sum of the squares of each point's numbers. -/
def sums (z : FVec Ideal S8x32x32x32 .f32) : FVec Ideal S8x32x32 .f32 :=
  Host.reduceAdd (mulf z z) (constant S_ .f32 0x00000000#32) reducesTo_S8x32x32x32_S8x32x32_d3 h_S_

/-- Those sums as a column. -/
def pointSums (z : FVec Ideal S8x32x32x32 .f32) : FVec Ideal S8192x1 .f32 :=
  shapeCast S8192x1 (broadcastInDim S8x32x32x1 ![0, 1, 2] bcast_S8x32x32_S8x32x32x1_0_1_2 (sums z)) shapeCasts_S8x32x32x1_S8192x1

/-- The sum of the squares of each code's numbers. -/
def sumsOfCodes (w : FVec Ideal S8192x32 .f32) : FVec Ideal S8192 .f32 :=
  Host.reduceAdd (mulf w w) (constant S_ .f32 0x00000000#32) reducesTo_S8192x32_S8192_d1 h_S_

/-- Those sums as a row. -/
def codeSums (w : FVec Ideal S8192x32 .f32) : FVec Ideal S1x8192 .f32 :=
  shapeCast S1x8192 (sumsOfCodes w) shapeCasts_S8192_S1x8192

/-- The code numbers as a row. -/
def numbers : FVec Ideal S1x8192 .f32 :=
  shapeCast S1x8192 (sitofp (F := Ideal) .f32 (iotaInDim S8192 32 0)) shapeCasts_S8192_S1x8192

section Contents
variable (m : (ℓ : Loc nD τ sig) → Buf (Elt Ideal) ℓ) (c : Dev nD)

theorem V_points : V m c main_v0 = points (m ((c : Thread nD τ).loc main_arg0)) := by
  entry_read
  rfl

theorem V_pointSums : V m c main_v4 = pointSums (m ((c : Thread nD τ).loc main_arg0)) := by
  entry_read
  rfl

theorem V_codeSums : V m c main_v7 = codeSums (m ((c : Thread nD τ).loc main_arg1)) := by
  entry_read
  rfl

theorem V_numbers : V m c main_v9 = numbers := by
  entry_read
  rfl

end Contents

section Read
variable (z : FVec Ideal S8x32x32x32 .f32) (w : FVec Ideal S8192x32 .f32)
variable (n : Fin 8192) (a : Fin 8) (b c : Fin 32) (h : n.val = 1024 * a.val + 32 * b.val + c.val) (k : Fin 8192) (e : Fin 32)

theorem sums_apply : sums z (ix3 a b c) = 0 + ∑ e : Fin 32, z (ix4 a b c e) * z (ix4 a b c e) := by
  have h : S8x32x32x32.Reduces [3] S8x32x32 := by decide
  show Ideal.hostReduceAdd _ _ _ _ = _
  rw [Ideal.hostReduceAdd_single _ h]
  congr 1
  · exact Ideal.ofBits_zero_f32
  · refine Finset.sum_congr rfl fun e _ => ?_
    have : h.lift (ix3 a b c) e = ix4 a b c e := by funext d; fin_cases d <;> rfl
    rw [this]; rfl

theorem sumsOfCodes_apply : sumsOfCodes w (ix1 k) = 0 + ∑ e : Fin 32, w (ix2 k e) * w (ix2 k e) := by
  have h : S8192x32.Reduces [1] S8192 := by decide
  show Ideal.hostReduceAdd _ _ _ _ = _
  rw [Ideal.hostReduceAdd_single _ h]
  congr 1
  · exact Ideal.ofBits_zero_f32
  · refine Finset.sum_congr rfl fun e _ => ?_
    have : h.lift (ix1 k) e = ix2 k e := by funext d; fin_cases d <;> rfl
    rw [this]; rfl

include h in
theorem points_apply : points z (ix2 n e) = z (ix4 a b c e) := by
  refine shapeCast_apply _ _ _ (ix4 a b c e) ?_
  rw [Shape.rowMajor_val_four, Shape.rowMajor_val_two]
  show ((a.val * 32 + b.val) * 32 + c.val) * 32 + e.val = n.val * 32 + e.val
  omega

include h in
theorem pointSums_apply : pointSums z (ix2 n 0) = 0 + ∑ e : Fin 32, z (ix4 a b c e) * z (ix4 a b c e) := by
  refine (shapeCast_apply _ _ _ (ix4 a b c (0 : Fin 1)) ?_).trans ?_
  · rw [Shape.rowMajor_val_four, Shape.rowMajor_val_two]
    show ((a.val * 32 + b.val) * 32 + c.val) * 1 + 0 = n.val * 1 + 0
    omega
  · rw [broadcastInDim_apply _ _ _ _ (ix3 a b c) (fun d => by fin_cases d <;> rfl)]
    exact sums_apply z a b c

theorem codeSums_apply : codeSums w (ix2 0 k) = 0 + ∑ e : Fin 32, w (ix2 k e) * w (ix2 k e) := by
  refine (shapeCast_apply _ _ _ (ix1 k) ?_).trans (sumsOfCodes_apply w k)
  rw [Shape.rowMajor_val_one, Shape.rowMajor_val_two]
  show k.val = 0 * 8192 + k.val
  omega

theorem numbers_apply : numbers (ix2 0 k) = (((k.val : ℕ) : ℝ) : EReal) := by
  refine (shapeCast_apply _ _ _ (ix1 k) ?_).trans ?_
  · rw [Shape.rowMajor_val_one, Shape.rowMajor_val_two]
    show k.val = 0 * 8192 + k.val
    omega
  · show (((BitVec.ofNat 32 k.val).toInt : ℝ) : EReal) = _
    have hk := k.isLt
    have e : (BitVec.ofNat 32 k.val).toInt = (k.val : ℤ) := by
      rw [BitVec.toInt_eq_toNat_of_lt] <;> simp only [BitVec.toNat_ofNat] <;> omega
    rw [e, Int.cast_natCast]

end Read

end Cert.Proof.Entry

end
-- ==== Proof.Blocks.lean ====
/-
  The kernel's distances. Row `r` of grid point `t`'s block is row `2048 t + r` of the points (`block_points`,
  `block_sums`), the other operands are given whole, and the distance the body computes for a row and a code is the real
  number `far` when every number is finite (`distance_apply`).
-/
module

public import proofs.«01_k».proof.Proof.Entry
public import proofs.«01_k».proof.Proof.Dist
public import Idealize.ShloMosaic.Lib.Pipeline.ValueKit

@[expose] public section

noncomputable section

namespace Cert.Proof.Blocks

open Idealize.ShloMosaic hiding ix0 ix1 ix2 ix3 ix4
open Idealize.ShloMosaic.TcCoe Idealize.ShloMosaic.ValueIdx Cert.KernelIdeal Cert.KernelIdeal.Gen Cert.Proof.Entry

theorem index_points (t : Fin cfg0.N) : win0_0.index t = ![t.val, 0] := by
  revert t; decide +kernel
theorem index_sums (t : Fin cfg0.N) : win0_1.index t = ![t.val, 0] := by
  revert t; decide +kernel
theorem index_codeSums (t : Fin cfg0.N) : win0_2.index t = ![0, 0] := by
  revert t; decide +kernel
theorem index_numbers (t : Fin cfg0.N) : win0_3.index t = ![0, 0] := by
  revert t; decide +kernel
theorem index_codes (t : Fin cfg0.N) : win0_4.index t = ![0, 0] := by
  revert t; decide +kernel
theorem index_result (t : Fin cfg0.N) : win0_5.index t = ![t.val, 0] := by
  revert t; decide +kernel

section Read
variable (m : (ℓ : Loc nD τ sig) → Buf (Elt Ideal) ℓ) (c : Dev nD) (t : Fin cfg0.N)

/-- Row `r` of block `t`, among all rows. -/
abbrev row (t : Fin cfg0.N) (r : Fin 2048) : Fin 8192 :=
  ⟨2048 * t.val + r.val, by have h : t.val < 4 := t.isLt; have := r.isLt; omega⟩

theorem block_points (r : Fin 2048) (e : Fin 32) :
    iblk m c 0 t (ix2 r e) = points (m ((c : Thread nD τ).loc main_arg0)) (ix2 (row t r) e) := by
  rw [← Entry.V_points m c]
  unfold iblk
  show V m c main_v0 _ = _
  congr 1
  funext a
  refine Fin.ext ?_
  blk_simp [index_points]
  fin_cases a
  · show t.val * 2048 + r.val = 2048 * t.val + r.val; omega
  · show 0 * 32 + e.val = e.val; omega

theorem block_sums (r : Fin 2048) :
    iblk m c 1 t (ix2 r (0 : Fin 1)) = pointSums (m ((c : Thread nD τ).loc main_arg0)) (ix2 (row t r) 0) := by
  rw [← Entry.V_pointSums m c]
  unfold iblk
  show V m c main_v4 _ = _
  congr 1
  funext a
  refine Fin.ext ?_
  blk_simp [index_sums]
  fin_cases a
  · show t.val * 2048 + r.val = 2048 * t.val + r.val; omega
  · rfl

theorem block_codeSums (k : Fin 8192) :
    iblk m c 2 t (ix2 (0 : Fin 1) k) = codeSums (m ((c : Thread nD τ).loc main_arg1)) (ix2 0 k) := by
  rw [← Entry.V_codeSums m c]
  unfold iblk
  show V m c main_v7 _ = _
  congr 1
  funext a
  refine Fin.ext ?_
  blk_simp [index_codeSums]
  fin_cases a
  · rfl
  · show 0 * 8192 + k.val = k.val; omega

theorem block_numbers (k : Fin 8192) :
    iblk m c 3 t (ix2 (0 : Fin 1) k) = numbers (ix2 0 k) := by
  rw [← Entry.V_numbers m c]
  unfold iblk
  show V m c main_v9 _ = _
  congr 1
  funext a
  refine Fin.ext ?_
  blk_simp [index_numbers]
  fin_cases a
  · rfl
  · show 0 * 8192 + k.val = k.val; omega

theorem block_codes (k : Fin 8192) (e : Fin 32) :
    iblk m c 4 t (ix2 k e) = (m ((c : Thread nD τ).loc main_arg1) : FVec Ideal S8192x32 .f32) (ix2 k e) := by
  rw [← V_main_arg1 m c]
  unfold iblk
  show V m c main_arg1 _ = _
  congr 1
  funext a
  refine Fin.ext ?_
  blk_simp [index_codes]
  fin_cases a
  · show 0 * 8192 + k.val = k.val; omega
  · show 0 * 32 + e.val = e.val; omega

/-- The body's distance at a row and a code, from what it is given. -/
theorem pay2_apply (x0 : Vec Ideal S2048x32 .f32) (x4 : Vec Ideal S8192x32 .f32) (x1 : Vec Ideal S2048x1 .f32)
    (x2 : Vec Ideal S1x8192 .f32) (r : Fin 2048) (k : Fin 8192) : k0_pay2 x0 x4 x1 x2 (ix2 r k)
      = x1 (ix2 r 0) + (∑ e : Fin 32, (x0 (ix2 r e) * ((-2 : ℝ) : EReal)) * x4 (ix2 k e)) + x2 (ix2 0 k) := by
  unfold k0_pay2
  rw [shapeCast_self, shapeCast_self, shapeCast_self]
  refine congrArg₂ (· + ·) (congrArg₂ (· + ·) ?_ ?_) ?_
  · exact broadcastTo_apply _ _ _ (ix2 r 0) (fun a => by fin_cases a <;> rfl)
  · refine (Ideal.matmul_constant_zero_apply _ _ _ _ _).trans ?_
    rw [← Equiv.sum_comp (contrEquiv1 dot_S2048x32_S8192x32_S2048x8192_1_1_0_0_n_n 32 rfl rfl).symm]
    refine Finset.sum_congr rfl fun e _ => ?_
    refine congrArg₂ (· * ·) (congrArg₂ (· * ·) (congrArg x0 ?_) ofBits_neg_two) (congrArg x4 ?_)
    · funext d; fin_cases d <;> rfl
    · funext d; fin_cases d <;> rfl
  · exact broadcastTo_apply _ _ _ (ix2 0 k) (fun a => by fin_cases a <;> rfl)

/-- The body's distance at grid point `t`, row `r` and code `k` is the squared distance of that point to that code. -/
theorem distance_apply {z : FVec Ideal S8x32x32x32 .f32} {w : FVec Ideal S8192x32 .f32}
    (ez : m ((c : Thread nD τ).loc main_arg0) = z) (ew : m ((c : Thread nD τ).loc main_arg1) = w)
    (hz : ∀ i, z i = (((z i).toReal : ℝ) : EReal)) (hw : ∀ i, w i = (((w i).toReal : ℝ) : EReal))
    (r : Fin 2048) (a : Fin 8) (b d : Fin 32) (h : (row t r).val = 1024 * a.val + 32 * b.val + d.val) (k : Fin 8192) :
    k0_pay2 (iblk m c 0 t) (iblk m c 4 t) (iblk m c 1 t) (iblk m c 2 t) (ix2 r k) = ((far z w a b d k.val : ℝ) : EReal) := by
  have hk : (⟨k.val % 8192, Nat.mod_lt _ (by decide)⟩ : Fin 8192) = k := Fin.ext (Nat.mod_eq_of_lt k.isLt)
  have hz' : ∀ e, z (ix4 a b d e) = ((pt z a b d e : ℝ) : EReal) := fun e => hz _
  have hw' : ∀ e, w (ix2 k e) = ((cd w k.val e : ℝ) : EReal) := fun e => by rw [cd, hk]; exact hw _
  have e0 : ∀ e, iblk m c 0 t (ix2 r e) = ((pt z a b d e : ℝ) : EReal) := fun e => by
    rw [block_points, ez, points_apply z _ a b d h]; exact hz' e
  have e4 : ∀ e, iblk m c 4 t (ix2 k e) = ((cd w k.val e : ℝ) : EReal) := fun e => by
    rw [block_codes, ew]; exact hw' e
  have e1 : iblk m c 1 t (ix2 r (0 : Fin 1)) = 0 + ∑ e, ((pt z a b d e : ℝ) : EReal) * ((pt z a b d e : ℝ) : EReal) := by
    rw [block_sums, ez, pointSums_apply z _ a b d h]; simp only [hz']
  have e2 : iblk m c 2 t (ix2 (0 : Fin 1) k) = 0 + ∑ e, ((cd w k.val e : ℝ) : EReal) * ((cd w k.val e : ℝ) : EReal) := by
    rw [block_codeSums, ew, codeSums_apply]; simp only [hw']
  refine (pay2_apply _ _ _ _ r k).trans (Eq.trans ?_ (sqd_kernel _ _))
  refine congrArg₂ (· + ·) (congrArg₂ (· + ·) e1 (Finset.sum_congr rfl fun e _ => ?_)) e2
  exact congrArg₂ (· * ·) (congrArg₂ (· * ·) (e0 e) rfl) (e4 e)

/-- The code numbers the body reads. -/
theorem number_apply (k : Fin 8192) : k0_pay3 (iblk m c 3 t) (ix2 0 k) = (((k.val : ℕ) : ℝ) : EReal) := by
  unfold k0_pay3
  rw [shapeCast_self]
  exact (block_numbers m c t k).trans (numbers_apply k)

end Read

end Cert.Proof.Blocks

end
-- ==== Proof.Lanes.lean ====
/-
  The kernel's search in its own vocabulary. The body holds a [2048, 8192] array of distances (`u`) and a row of code
  numbers (`w`), and looks for the least distance of every row in three stretches of 128-lane slices: 22, 22 and 20 of
  them. Along a stretch each lane keeps its least value so far and the number of the code it came from (`step`); at the
  end of a stretch the 128 lanes are reduced to one (`low`, `place`); the three stretches are then compared (`pick`).
  `out0_5_eq` says that the block the body stores is exactly that.
-/
module

public import proofs.«01_k».proof.Proof.Gen.KernelIdeal.Frame
public import Idealize.ShloMosaic.Lib.Pipeline.Value

@[expose] public section

noncomputable section

namespace Cert.Proof.Lanes

open Idealize.ShloMosaic Cert.KernelIdeal Cert.KernelIdeal.Gen

variable {F : FTy → Type} [FloatOps F]

/-- A [2048, 128] array: one value per row and lane. -/
abbrev Lane (F : FTy → Type) := FVec F S2048x128 .f32
/-- A [2048, 1] array: one value per row. -/
abbrev Col (F : FTy → Type) := FVec F S2048x1 .f32

theorem slice_u {j : ℕ} (h : j < 64) : S2048x8192.Slices ![0, 128 * j] S2048x128 :=
  ⟨rfl, fun a => match a with
    | ⟨0, _⟩ => by show 0 + 2048 ≤ 2048; omega
    | ⟨1, _⟩ => by show 128 * j + 128 ≤ 8192; omega⟩

theorem slice_w {j : ℕ} (h : j < 64) : S1x8192.Slices ![0, 128 * j] S1x128 :=
  ⟨rfl, fun a => match a with
    | ⟨0, _⟩ => by show 0 + 1 ≤ 1; omega
    | ⟨1, _⟩ => by show 128 * j + 128 ≤ 8192; omega⟩

/-- Slice `j` of the distances: columns 128·j up to 128·j + 127. -/
def dist (u : FVec F S2048x8192 .f32) (j : Fin 64) : Lane F :=
  extractStridedSlice S2048x128 ![0, 128 * j.val] u (slice_u j.isLt)

/-- The code numbers of slice `j`, the same in every row. -/
def code (w : FVec F S1x8192 .f32) (j : Fin 64) : Lane F :=
  broadcastTo S2048x128 (shapeCast S1x128 (extractStridedSlice S1x128 ![0, 128 * j.val] w (slice_w j.isLt))
    shapeCasts_S1x128_S1x128) broadcasts_S1x128_S2048x128

/-- One slice taken into the running least values and their code numbers: a strictly smaller distance replaces both. -/
def step (u : FVec F S2048x8192 .f32) (w : FVec F S1x8192 .f32) (s : Lane F × Lane F) (j : Fin 64) : Lane F × Lane F :=
  (minimumf s.1 (dist u j), select (cmpf .olt (dist u j) s.1) (code w j) s.2)

/-- The start of a stretch: +∞ everywhere, code number zero. -/
def start : Lane F × Lane F :=
  (broadcast S2048x128 (Scalar.ofBits .f32 0x7F800000#32), broadcast S2048x128 (Scalar.ofBits .f32 0x00000000#32))

/-- A stretch of slices, in order. -/
def stretch (u : FVec F S2048x8192 .f32) (w : FVec F S1x8192 .f32) (js : List (Fin 64)) : Lane F × Lane F :=
  js.foldl (step u w) start

/-- The least of the 128 lanes, row by row. -/
def low (s : Lane F × Lane F) : Col F :=
  shapeCast S2048x1 (multiReduction .minimumf [1] S2048 s.1 0x7F800000#32 reduces_S2048x128_S2048 (.inl rfl) rfl)
    shapeCasts_S2048_S2048x1

/-- The least code number among the lanes that hold the row's least value. -/
def place (s : Lane F × Lane F) : Col F :=
  shapeCast S2048x1 (multiReduction .minimumf [1] S2048
    (select (cmpf .oeq s.1 (broadcastTo S2048x128 (low s) broadcasts_S2048x1_S2048x128)) s.2
      (broadcast S2048x128 (Scalar.ofBits .f32 0x4BE4E1C0#32)))
    0x7F800000#32 reduces_S2048x128_S2048 (.inl rfl) rfl) shapeCasts_S2048_S2048x1

/-- The distance a stretch ends with: the square root of its least value, a negative one taken as zero. -/
def root (s : Lane F × Lane F) : Col F :=
  sqrt (maximumf (low s) (broadcast S2048x1 (Scalar.ofBits .f32 0x00000000#32)))

/-- A value rounded to bf16 and widened again, as the kernel keeps its running distance between stretches. -/
def kept (x : Col F) : Col F := extf .f32 (truncf .bf16 x bitsLt_bf16_f32) bitsLt_bf16_f32

/-- The three stretches compared in order, a later one winning only when strictly smaller. -/
def pick (s₀ s₁ s₂ : Lane F × Lane F) : IVec S2048x1 32 :=
  fptosi 32 (select (cmpf .olt (root s₂) (kept (select (cmpf .olt (root s₁) (kept (root s₀))) (root s₁) (kept (root s₀)))))
    (place s₂) (select (cmpf .olt (root s₁) (kept (root s₀))) (place s₁) (place s₀)))

/-- The slices of the three stretches. -/
abbrev js₀ : List (Fin 64) := [0, 1, 2, 3, 4, 5, 6, 7, 8, 9, 10, 11, 12, 13, 14, 15, 16, 17, 18, 19, 20, 21]
abbrev js₁ : List (Fin 64) := [22, 23, 24, 25, 26, 27, 28, 29, 30, 31, 32, 33, 34, 35, 36, 37, 38, 39, 40, 41, 42, 43]
abbrev js₂ : List (Fin 64) := [44, 45, 46, 47, 48, 49, 50, 51, 52, 53, 54, 55, 56, 57, 58, 59, 60, 61, 62, 63]

/-- The block of code numbers, from the distances and the row of numbers. -/
def nearest (u : FVec F S2048x8192 .f32) (w : FVec F S1x8192 .f32) : IVec S2048x1 32 :=
  pick (stretch u w js₀) (stretch u w js₁) (stretch u w js₂)

variable (x0 : Vec F S2048x32 .f32) (x1 : Vec F S2048x1 .f32) (x2 x3 : Vec F S1x8192 .f32) (x4 : Vec F S8192x32 .f32)

theorem zero_off : (![0, 0] : Fin 2 → ℕ) = fun _ => 0 := funext fun a => by fin_cases a <;> rfl

set_option maxRecDepth 8000 in
/-- The block the body stores is `nearest` of the distances and the row of code numbers. -/
theorem out0_5_eq : out0_5 x0 x1 x2 x3 x4 = nearest (k0_pay2 x0 x4 x1 x2) (k0_pay3 x3) := by
  have h : out0_5 x0 x1 x2 x3 x4
      = View.canon [⟨r0_2, nearest (k0_pay162 x0 x1 x2 x3 x4) (k0_pay163 x0 x1 x2 x3 x4)⟩] := rfl
  rw [h, View.canon_unit_zero zero_off]
  unfold k0_pay162 k0_pay163
  rw [View.ld_unit_zero zero_off, View.ld_unit_zero zero_off, View.ld_unit_zero zero_off, View.ld_unit_zero zero_off,
    View.ld_unit_zero zero_off]

end Cert.Proof.Lanes

end
-- ==== Proof.Nearest.lean ====
/-
  The kernel's search read at one row. Where the row's distances are real numbers `d` and the code numbers are 0, 1, …,
  a stretch ends with the least distance of its codes and the least number that has it (`stretch_best`), and the three
  stretches compared give the best of all 8192 (`nearest_best`).
-/
module

public import proofs.«01_k».proof.Proof.Lanes
public import proofs.«01_k».proof.Proof.Best
public import proofs.«01_k».proof.Proof.Dist

@[expose] public section

noncomputable section

namespace Cert.Proof.Lanes

open Idealize.ShloMosaic Idealize.ShloMosaic.ValueIdx Cert.KernelIdeal Cert.KernelIdeal.Gen

/-- The codes of a list of slices. -/
def In (js : List (Fin 64)) (i : ℕ) : Prop := ∃ j ∈ js, ∃ l : Fin 128, i = 128 * j.val + l.val

section Read
variable (u : FVec Ideal S2048x8192 .f32) (w : FVec Ideal S1x8192 .f32) (r : Fin 2048) (l : Fin 128) (j : Fin 64)

/-- The code at lane `l` of slice `j`. -/
abbrev at_ (j : Fin 64) (l : Fin 128) : Fin 8192 := ⟨128 * j.val + l.val, by have := j.isLt; have := l.isLt; omega⟩

theorem dist_apply : dist u j (ix2 r l) = u (ix2 r (at_ j l)) := by
  unfold dist
  refine extractStridedSlice_apply _ _ _ _ _ (fun a => ?_)
  fin_cases a
  · show r.val = 0 + r.val; omega
  · rfl

theorem code_apply : code w j (ix2 r l) = w (ix2 0 (at_ j l)) := by
  unfold code
  rw [shapeCast_self, broadcastTo_apply _ _ _ (ix2 0 l) (fun a => by fin_cases a <;> rfl)]
  refine extractStridedSlice_apply _ _ _ _ _ (fun a => ?_)
  fin_cases a <;> rfl

theorem step_apply (s : Lane Ideal × Lane Ideal) : ((step u w s j).1 (ix2 r l), (step u w s j).2 (ix2 r l))
    = take (s.1 (ix2 r l), s.2 (ix2 r l)) (u (ix2 r (at_ j l))) (w (ix2 0 (at_ j l))) := by
  unfold step take
  refine Prod.ext (congrArg (min _) (dist_apply u r l j)) ?_
  show Scalar.select (Ideal.cmp .olt (dist u j (ix2 r l)) (s.1 (ix2 r l))) (code w j (ix2 r l)) (s.2 (ix2 r l)) = _
  rw [dist_apply, code_apply]
  by_cases h : u (ix2 r (at_ j l)) < s.1 (ix2 r l) <;> simp [Scalar.select, Ideal.cmp, h]

theorem start_apply : ((start (F := Ideal)).1 (ix2 r l), (start (F := Ideal)).2 (ix2 r l)) = ((⊤ : EReal), (0 : EReal)) :=
  Prod.ext ofBits_inf Ideal.ofBits_zero_f32

theorem foldl_apply (js : List (Fin 64)) : ∀ s : Lane Ideal × Lane Ideal,
    ((js.foldl (step u w) s).1 (ix2 r l), (js.foldl (step u w) s).2 (ix2 r l))
      = js.foldl (fun s j => take s (u (ix2 r (at_ j l))) (w (ix2 0 (at_ j l)))) (s.1 (ix2 r l), s.2 (ix2 r l)) := by
  induction js with
  | nil => intro s; rfl
  | cons j js ih => intro s; rw [List.foldl_cons, List.foldl_cons, ih, step_apply]

theorem lift_lane : reduces_S2048x128_S2048.lift (ix1 r) l = ix2 r l := by funext a; fin_cases a <;> rfl

theorem column (v : FVec Ideal S2048 .f32) : shapeCast S2048x1 v shapeCasts_S2048_S2048x1 (ix2 r 0) = v (ix1 r) :=
  shapeCast_apply _ _ _ _ (by rw [Shape.rowMajor_val_one, Shape.rowMajor_val_two]; show r.val = r.val * 1 + 0; omega)

/-- The least of a row's 128 lanes. -/
theorem least (x : Lane Ideal) :
    shapeCast S2048x1 (multiReduction .minimumf [1] S2048 x 0x7F800000#32 reduces_S2048x128_S2048 (.inl rfl) rfl)
      shapeCasts_S2048_S2048x1 (ix2 r 0) = (Finset.univ : Finset (Fin 128)).fold min (⊤ : EReal) (fun l => x (ix2 r l)) := by
  rw [column]
  refine (multiReduction_minimumf_eq_fold x 0x7F800000#32 reduces_S2048x128_S2048 (.inl rfl) rfl (ix1 r)).trans ?_
  refine (reduces_S2048x128_S2048.fold_filter_drop_single _ _ x (ix1 r)).trans ?_
  have h : (x ∘ reduces_S2048x128_S2048.lift (ix1 r)) = fun l : Fin 128 => x (ix2 r l) :=
    funext fun l => congrArg x (lift_lane r l)
  exact congr (congrArg (fun b => Finset.fold min b) ofBits_inf) h ▸ rfl

/-- A stretch's code number at a row: the least of the lanes' numbers, those of lanes above the row's least value standing
    at a number above every code. -/
theorem place_apply (s : Lane Ideal × Lane Ideal) : place s (ix2 r 0) = (Finset.univ : Finset (Fin 128)).fold min (⊤ : EReal)
    (fun l => if s.1 (ix2 r l) = low s (ix2 r 0) then s.2 (ix2 r l) else ((30000000 : ℝ) : EReal)) := by
  unfold place
  rw [least]
  congr 1
  funext l
  rw [select_apply, cmpf_apply, broadcast_apply, broadcastTo_apply _ _ _ (ix2 r 0) (fun a => by fin_cases a <;> rfl),
    ← ofBits_far]
  generalize low s (ix2 r 0) = t
  by_cases h : s.1 (ix2 r l) = t
  · simp [Scalar.select, Ideal.cmpf_def, Ideal.cmp, h]
  · simp only [Scalar.select, Ideal.cmpf_def, Ideal.cmp, h]; rfl

theorem sqrt_at (x : Col Ideal) (i : S2048x1.Idx) : sqrt x i = Ideal.sqrt (x i) := Ideal.sqrt_def _

theorem kept_at (x : Col Ideal) : kept x = x := rfl

theorem fptosi_at (x : Col Ideal) (i : S2048x1.Idx) : fptosi 32 x i = Ideal.fptosi 32 (x i) := rfl

theorem olt_at (x y : Col Ideal) (i : S2048x1.Idx) : cmpf .olt x y i = Ideal.cmp .olt (x i) (y i) := Ideal.cmpf_def _ _ _

theorem max_at (x y : Col Ideal) (i : S2048x1.Idx) : maximumf x y i = max (x i) (y i) := Ideal.maximumf_def _ _

theorem root_apply (s : Lane Ideal × Lane Ideal) : root s (ix2 r 0) = Ideal.sqrt (max (low s (ix2 r 0)) 0) := by
  unfold root
  rw [sqrt_at, max_at, broadcast_apply]
  congr 2
  exact Ideal.ofBits_zero_f32

theorem pick_apply (s₀ s₁ s₂ : Lane Ideal × Lane Ideal) : pick s₀ s₁ s₂ (ix2 r 0)
    = Ideal.fptosi 32 (Scalar.select (Ideal.cmp .olt (root s₂ (ix2 r 0))
        (Scalar.select (Ideal.cmp .olt (root s₁ (ix2 r 0)) (root s₀ (ix2 r 0))) (root s₁ (ix2 r 0)) (root s₀ (ix2 r 0))))
      (place s₂ (ix2 r 0))
      (Scalar.select (Ideal.cmp .olt (root s₁ (ix2 r 0)) (root s₀ (ix2 r 0))) (place s₁ (ix2 r 0)) (place s₀ (ix2 r 0)))) := by
  unfold pick
  rw [fptosi_at, kept_at, kept_at]
  simp only [select_apply, olt_at]

end Read

variable {u : FVec Ideal S2048x8192 .f32} {w : FVec Ideal S1x8192 .f32} {r : Fin 2048} {d : ℕ → ℝ}

/-- What a stretch ends with at a row. -/
theorem stretch_best (hu : ∀ k : Fin 8192, u (ix2 r k) = ((d k.val : ℝ) : EReal))
    (hw : ∀ k : Fin 8192, w (ix2 0 k) = (((k.val : ℕ) : ℝ) : EReal)) (js : List (Fin 64)) (hne : js ≠ [])
    (hp : js.Pairwise (· < ·)) :
    ∃ b, Best d (In js) b ∧ low (stretch u w js) (ix2 r 0) = ((d b : ℝ) : EReal)
      ∧ place (stretch u w js) (ix2 r 0) = ((b : ℝ) : EReal) := by
  have hl : ∀ l : Fin 128, ∃ k : ℕ, Best d (fun i => ∃ j ∈ js, i = 128 * j.val + l.val) k ∧
      ((stretch u w js).1 (ix2 r l), (stretch u w js).2 (ix2 r l)) = (((d k : ℝ) : EReal), ((k : ℝ) : EReal)) := fun l => by
    obtain ⟨k, hk, e⟩ := lane d l.val js hne hp
    refine ⟨k, hk, ?_⟩
    unfold stretch
    rw [foldl_apply, start_apply]
    simp only [hu, hw]
    exact e
  choose k hk he using hl
  have h1 : ∀ l, (stretch u w js).1 (ix2 r l) = ((d (k l) : ℝ) : EReal) := fun l => congrArg Prod.fst (he l)
  have h2 : ∀ l, (stretch u w js).2 (ix2 r l) = ((k l : ℝ) : EReal) := fun l => congrArg Prod.snd (he l)
  obtain ⟨b, hb, e1, e2⟩ := row d js k hk 30000000 (by norm_num)
  have hlow : low (stretch u w js) (ix2 r 0) = ((d b : ℝ) : EReal) := by
    unfold low
    rw [least]
    simp only [h1]
    exact e1
  refine ⟨b, hb, hlow, ?_⟩
  rw [place_apply, hlow, ← e2]
  simp only [h1, h2]

/-- The comparison of two distances held as roots. -/
theorem root_lt (hd : ∀ i, 0 ≤ d i) (a b : ℕ) {α : Type} (x y : α) :
    Scalar.select (Ideal.cmp .olt (((Real.sqrt (d b) : ℝ) : EReal)) (((Real.sqrt (d a) : ℝ) : EReal))) x y
      = if d b < d a then x else y := by
  have h : (((Real.sqrt (d b) : ℝ) : EReal) < ((Real.sqrt (d a) : ℝ) : EReal)) ↔ d b < d a := by
    rw [EReal.coe_lt_coe_iff, Real.sqrt_lt_sqrt_iff (hd b)]
  by_cases g : d b < d a <;> simp [Scalar.select, Ideal.cmp, h, g]

theorem fptosi_nat (i : ℕ) (hi : i < 8192) : Ideal.fptosi 32 (((i : ℕ) : ℝ) : EReal) = BitVec.ofNat 32 i := by
  rw [Ideal.fptosi, Ideal.toIntClamped_coe, if_pos (Nat.cast_nonneg i), Int.floor_natCast,
    max_eq_right (by norm_num), min_eq_right (by norm_num; omega)]
  exact BitVec.ofInt_natCast 32 i

/-- Two stretches in order: the second is kept when it is strictly nearer. -/
theorem join {P Q : ℕ → Prop} {a b : ℕ} (ha : Best d P a) (hb : Best d Q b) (hPQ : ∀ i, P i → ∀ k, Q k → i ≤ k) :
    Best d (fun i => P i ∨ Q i) (if d b < d a then b else a) := by
  by_cases h : d b < d a
  · rw [if_pos h]; exact ha.later hb h
  · rw [if_neg h]; exact ha.earlier hb h (fun k hk => hPQ a ha.1 k hk)

theorem In_le {js js' : List (Fin 64)} (h : ∀ j ∈ js, ∀ j' ∈ js', j.val < j'.val) (i k : ℕ) (hi : In js i) (hk : In js' k) :
    i ≤ k := by
  obtain ⟨j, hj, l, e⟩ := hi
  obtain ⟨j', hj', l', e'⟩ := hk
  have := h j hj j' hj'
  have := l.isLt
  omega

theorem slices (j : Fin 64) : (j ∈ js₀ ∨ j ∈ js₁) ∨ j ∈ js₂ := by revert j; decide

/-- The three stretches hold every code. -/
theorem In_all (i : ℕ) : ((In js₀ i ∨ In js₁ i) ∨ In js₂ i) ↔ i < 8192 := by
  constructor
  · have h : ∀ js, In js i → i < 8192 := fun js ⟨j, _, l, e⟩ => by have := j.isLt; have := l.isLt; omega
    rintro ((g | g) | g) <;> exact h _ g
  · intro hi
    have e : i = 128 * (⟨i / 128, by omega⟩ : Fin 64).val + (⟨i % 128, by omega⟩ : Fin 128).val := by
      show i = 128 * (i / 128) + i % 128; omega
    rcases slices ⟨i / 128, by omega⟩ with (g | g) | g
    · exact .inl (.inl ⟨_, g, _, e⟩)
    · exact .inl (.inr ⟨_, g, _, e⟩)
    · exact .inr ⟨_, g, _, e⟩

/-- The kernel's search at a row ends at the best code. -/
theorem nearest_best (hd : ∀ i, 0 ≤ d i) (hu : ∀ k : Fin 8192, u (ix2 r k) = ((d k.val : ℝ) : EReal))
    (hw : ∀ k : Fin 8192, w (ix2 0 k) = (((k.val : ℕ) : ℝ) : EReal)) :
    ∃ i, Best d (· < 8192) i ∧ nearest u w (ix2 r 0) = BitVec.ofNat 32 i := by
  obtain ⟨b₀, h₀, l₀, p₀⟩ := stretch_best hu hw js₀ (by decide) (by decide)
  obtain ⟨b₁, h₁, l₁, p₁⟩ := stretch_best hu hw js₁ (by decide) (by decide)
  obtain ⟨b₂, h₂, l₂, p₂⟩ := stretch_best hu hw js₂ (by decide) (by decide)
  have h₀₁ := join h₀ h₁ (fun i hi k hk => In_le (by decide) i k hi hk)
  have h := join h₀₁ h₂ (fun i hi k hk => hi.elim (fun hi => In_le (by decide) i k hi hk) (fun hi => In_le (by decide) i k hi hk))
  refine ⟨_, h.congr In_all, ?_⟩
  have hroot : ∀ (s : Lane Ideal × Lane Ideal) (b : ℕ), low s (ix2 r 0) = ((d b : ℝ) : EReal) →
      root s (ix2 r 0) = ((Real.sqrt (d b) : ℝ) : EReal) := fun s b e => by
    rw [root_apply, e, root_coe _ (hd b)]
  have r₀ := hroot _ _ l₀
  have r₁ := hroot _ _ l₁
  have r₂ := hroot _ _ l₂
  unfold nearest
  rw [pick_apply, r₀, r₁, r₂, p₀, p₁, p₂, root_lt hd, root_lt hd]
  have f1 : (if d b₁ < d b₀ then ((Real.sqrt (d b₁) : ℝ) : EReal) else ((Real.sqrt (d b₀) : ℝ) : EReal))
      = ((Real.sqrt (d (if d b₁ < d b₀ then b₁ else b₀)) : ℝ) : EReal) := by split <;> rfl
  have f2 : (if d b₁ < d b₀ then ((b₁ : ℝ) : EReal) else ((b₀ : ℝ) : EReal))
      = (((if d b₁ < d b₀ then b₁ else b₀ : ℕ) : ℝ) : EReal) := by split <;> rfl
  rw [f1, f2, root_lt hd]
  have hlt : (if d b₂ < d (if d b₁ < d b₀ then b₁ else b₀) then b₂ else if d b₁ < d b₀ then b₁ else b₀) < 8192 :=
    (In_all _).1 h.1
  have f3 : (if d b₂ < d (if d b₁ < d b₀ then b₁ else b₀) then ((b₂ : ℝ) : EReal)
        else (((if d b₁ < d b₀ then b₁ else b₀ : ℕ) : ℝ) : EReal))
      = (((if d b₂ < d (if d b₁ < d b₀ then b₁ else b₀) then b₂ else if d b₁ < d b₀ then b₁ else b₀ : ℕ) : ℝ) : EReal) := by
    generalize (if d b₁ < d b₀ then b₁ else b₀) = t
    split <;> rfl
  rw [f3]
  exact fptosi_nat _ hlt

end Cert.Proof.Lanes

end
-- ==== Proof.KernelRun.lean ====
/-
  What the kernel returns. Every row of the pallas_call's array ends at the number of that row's nearest code
  (`array_best`), the line after the call reshapes the column to [8, 32, 32] (`tail_result`), and so the program ends
  with `result`, which holds at (a, b, c) the number of the code nearest to point (a, b, c) (`result_best`).
-/
module

public import proofs.«01_k».proof.Proof.Blocks
public import proofs.«01_k».proof.Proof.Nearest
public import Idealize.ShloMosaic.Lib.Pipeline.ValueKit

@[expose] public section

noncomputable section

namespace Cert.Proof.KernelRun

open Idealize.ShloMosaic hiding ix0 ix1 ix2 ix3 ix4
open Idealize.ShloMosaic.TcCoe Idealize.ShloMosaic.ValueIdx Cert.KernelIdeal Cert.KernelIdeal.Gen Cert.Proof.Entry
open Idealize.SL.Sem Cert.Proof.Blocks

variable (m : (ℓ : Loc nD τ sig) → Buf (Elt Ideal) ℓ) (c : Dev nD)

/-- The array that the pallas_call leaves. -/
def array : IVec S8192x1 32 := (dats m 0 c).arrAt 5 cfg0.N

/-- The kernel's result: that array as [8, 32, 32]. -/
def result : IVec S8x32x32 32 := shapeCast S8x32x32 (array m c) Facts₀.shapeCasts_S8192x1_S8x32x32

section Best
variable {m c} {z : FVec Ideal S8x32x32x32 .f32} {w : FVec Ideal S8192x32 .f32}
variable (ez : m ((c : Thread nD τ).loc main_arg0) = z) (ew : m ((c : Thread nD τ).loc main_arg1) = w)
variable (hz : ∀ i, z i = (((z i).toReal : ℝ) : EReal)) (hw : ∀ i, w i = (((w i).toReal : ℝ) : EReal))

include ez ew hz hw

/-- Row `r` of the block stored at grid point `t`. -/
theorem block_best (t : Fin cfg0.N) (r : Fin 2048) (a : Fin 8) (b d : Fin 32)
    (h : (Blocks.row t r).val = 1024 * a.val + 32 * b.val + d.val) : ∃ k, Best (far z w a b d) (· < 8192) k
      ∧ out0_5 (iblk m c 0 t) (iblk m c 1 t) (iblk m c 2 t) (iblk m c 3 t) (iblk m c 4 t) (ix2 r (0 : Fin 1)) = BitVec.ofNat 32 k := by
  obtain ⟨k, hk, e⟩ := Lanes.nearest_best (d := far z w a b d) (r := r) (fun _ => sqd_nonneg _ _)
    (distance_apply m c t ez ew hz hw r a b d h) (number_apply m c t)
  exact ⟨k, hk, (congrFun (Lanes.out0_5_eq _ _ _ _ _) _).trans e⟩

/-- Every row of the array. -/
theorem array_best (i : S8192x1.Idx) (a : Fin 8) (b d : Fin 32) (h : (i 0).val = 1024 * a.val + 32 * b.val + d.val) :
    ∃ k, Best (far z w a b d) (· < 8192) k ∧ array m c i = BitVec.ofNat 32 k := by
  refine (dats m 0 c).arrAt_forall_of_covers 5 (P := fun (i : S8192x1.Idx) (v : BitVec 32) => ∀ (a : Fin 8) (b d : Fin 32),
    (i 0).val = 1024 * a.val + 32 * b.val + d.val → ∃ k, Best (far z w a b d) (· < 8192) k ∧ v = BitVec.ofNat 32 k)
    (by decide +kernel) (fun t _ y => ?_) i (harr := Memref.isWhole_whole _) a b d h
  intro a b d h
  blk_simp [index_result] at h
  blk_simp
  rw [after0_5]
  obtain ⟨r, s, rfl⟩ : ∃ (r : Fin 2048) (s : Fin 1), y = ix2 r s := ⟨y 0, y 1, ValueIdx.eq_ix2 y⟩
  have hs : s = 0 := Subsingleton.elim _ _
  subst hs
  refine block_best ez ew hz hw t r a b d ?_
  have h' : t.val * 2048 + r.val = 1024 * a.val + 32 * b.val + d.val := h
  show 2048 * t.val + r.val = _
  omega

/-- The result at (a, b, d). -/
theorem result_best (a : Fin 8) (b d : Fin 32) :
    ∃ k, Best (far z w a b d) (· < 8192) k ∧ result m c (ix3 a b d) = BitVec.ofNat 32 k := by
  have hn : 1024 * a.val + 32 * b.val + d.val < 8192 := by have := a.isLt; have := b.isLt; have := d.isLt; omega
  obtain ⟨k, hk, e⟩ := array_best ez ew hz hw (ix2 ⟨_, hn⟩ (0 : Fin 1)) a b d rfl
  refine ⟨k, hk, Eq.trans (shapeCast_apply _ _ _ _ ?_) e⟩
  rw [Shape.rowMajor_val_three, Shape.rowMajor_val_two]
  show (1024 * a.val + 32 * b.val + d.val) * 1 + 0 = (a.val * 32 + b.val) * 32 + d.val
  omega

end Best

theorem arrays_distinct : Function.Injective (Pipeline.arrRef spec0) := by decide

/-- The line after the pallas_call. -/
theorem tail_result : Pipeline.afterTail₀ cfgs (dats m) 0 (V0 m) [hostOps1] c main_v11 = result m c := by
  unfold Pipeline.afterTail₀
  have h := Pipeline.withArrays_arr spec0 arrays_distinct c (V0 m c) (fun w => (dats m 0 c).arrAt w cfg0.N) 5
  show StableHlo.after hostOps1 _ _ = _
  after_results
  exact congrArg (fun x => shapeCast S8x32x32 x Facts₀.shapeCasts_S8192x1_S8x32x32) h

/-- The kernel ends holding `result`, its arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_result m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c)))⟩) (run_main m ρ)

end Cert.Proof.KernelRun

end
-- ==== Proof.Finite.lean ====
/-
  What the precondition says: where `finite` holds of the arguments, every entry of each is a real number.
-/
module

public import proofs.«01_k».proof.Pre_finite
public import proofs.«01_k».proof.Proof.Dist
public import Idealize.ShloMosaic.Lib.Pipeline.Value

@[expose] public section

noncomputable section

namespace Cert.Proof.Finite

open Idealize.ShloMosaic Idealize.ShloMosaic.ValueIdx Cert.Pre_finite

/-- A number whose absolute value is below infinity is real. -/
theorem real_of_lt {x : EReal} (h : max x (-x) < ⊤) : x = ((x.toReal : ℝ) : EReal) := by
  refine (EReal.coe_toReal ?_ ?_).symm
  · rintro rfl; simp at h
  · rintro rfl; simp at h

theorem and_one {p q : BitVec 1} (h : p &&& q = 1#1) : p = 1#1 ∧ q = 1#1 := by
  revert h; revert p q; decide

variable [Facts] {z : FVec Ideal S8x32x32x32 .f32} {w : FVec Ideal S8192x32 .f32}

theorem lt_of_olt {x : EReal} (h : Ideal.cmp .olt (max x (-x)) (Ideal.ofBits .f32 0x7F800000#32) = 1#1) : max x (-x) < ⊤ := by
  rw [ofBits_inf] at h
  by_contra g
  simp [Ideal.cmp, g] at h

theorem inf_apply (j : S8192x32.Idx) : broadcastInDim S8192x32 ![] Facts.bcast_S_S8192x32
    (constant (F := Ideal) S_ .f32 0x7F800000#32) j = Ideal.ofBits .f32 0x7F800000#32 :=
  (broadcastInDim_apply _ _ _ _ ix0 (fun d => d.elim0)).trans rfl

theorem both (h : fn z w = fun _ => 1#1) (j : S8192x32.Idx) :
    max (shapeCast S8192x32 z Facts.shapeCasts_S8x32x32x32_S8192x32 j) (-shapeCast S8192x32 z Facts.shapeCasts_S8x32x32x32_S8192x32 j) < ⊤
      ∧ max (w j) (-w j) < ⊤ := by
  have e := and_one (congrFun h j)
  refine ⟨lt_of_olt ?_, lt_of_olt ?_⟩
  · refine Eq.trans ?_ e.1
    exact congrArg (Ideal.cmp .olt _) (inf_apply j).symm
  · refine Eq.trans ?_ e.2
    exact congrArg (Ideal.cmp .olt _) (inf_apply j).symm

theorem codes_real (h : fn z w = fun _ => 1#1) (i : S8192x32.Idx) : w i = (((w i).toReal : ℝ) : EReal) :=
  real_of_lt (both h i).2

theorem points_real (h : fn z w = fun _ => 1#1) (i : S8x32x32x32.Idx) : z i = (((z i).toReal : ℝ) : EReal) := by
  refine real_of_lt ?_
  have hn : S8x32x32x32.numel = S8192x32.numel := by decide
  have e : shapeCast S8192x32 z Facts.shapeCasts_S8x32x32x32_S8192x32 (S8192x32.rowMajor.symm (Fin.cast hn (S8x32x32x32.rowMajor i))) = z i :=
    shapeCast_apply _ _ _ _ (by rw [Equiv.apply_symm_apply]; rfl)
  have b := (both h (S8192x32.rowMajor.symm (Fin.cast hn (S8x32x32x32.rowMajor i)))).1
  rwa [e] at b

end Cert.Proof.Finite

end
-- ==== Proof.lean ====
/-
  The five claims. The frames of the two kernels are the generated ones, the reference's is Proof/RefRun.lean's; no
  operation was replaced, so `preserves` has nothing to show. The value: at every index both programs return the least
  number of a code at least distance (Proof/KernelRun.lean, Proof/RefRead.lean), of which there is one (Proof/Best.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRead
public import proofs.«01_k».proof.Proof.KernelRun
public import proofs.«01_k».proof.Proof.Finite

@[expose] public section

noncomputable section

namespace Cert.Proof

open Idealize.ShloMosaic Idealize.SL.Sem

/-- The shape relations that the precondition's operations take. -/
instance facts_finite : Cert.Pre_finite.Facts := ⟨by decide, by decide⟩

/-- Of arguments that are finite, the kernel's result and the reference's are one array. -/
theorem same_result (m : (ℓ : Loc Cert.KernelIdeal.nD Cert.KernelIdeal.τ Cert.KernelIdeal.sig) → Buf (Elt Ideal) ℓ)
    (c : Dev Cert.KernelIdeal.nD) (z : FVec Ideal Cert.KernelIdeal.S8x32x32x32 .f32) (w : FVec Ideal Cert.KernelIdeal.S8192x32 .f32)
    (ez : m ((c.tc : Thread Cert.KernelIdeal.nD Cert.KernelIdeal.τ).loc Cert.KernelIdeal.main_arg0) = z)
    (ew : m ((c.tc : Thread Cert.KernelIdeal.nD Cert.KernelIdeal.τ).loc Cert.KernelIdeal.main_arg1) = w)
    (hz : ∀ i, z i = (((z i).toReal : ℝ) : EReal)) (hw : ∀ i, w i = (((w i).toReal : ℝ) : EReal)) :
    KernelRun.result m c = RefRun.out z w := by
  funext j
  rw [ValueIdx.eq_ix3 j]
  obtain ⟨i, hi, e⟩ := KernelRun.result_best ez ew hz hw (j 0) (j 1) (j 2)
  obtain ⟨k, hk, g⟩ := RefRead.out_best (j 0) (j 1) (j 2) hz hw
  rw [hi.unique hk] at e
  exact e.trans g.symm

/-- The value claim. -/
theorem algebraic : letI := Cert.KernelIdeal.Gen.facts; letI := Cert.ReferenceIdeal.Gen.facts;
    Cert.algebraic_KernelIdeal_ReferenceIdeal_pre_finite := by
  intro m ρ m' ρ' hpre hagree
  refine ⟨fun c => KernelRun.result m c, KernelRun.run m ρ, ?_⟩
  refine (θ_run Cert.ReferenceIdeal.defs _ _).mono (fun _ h c => ⟨?_, (h c).2⟩) (RefRun.run_main m' ρ')
  rw [(h c).1, (hagree c).1, (hagree c).2]
  exact (same_result m c _ _ rfl rfl (Finite.points_real (hpre c)) (Finite.codes_real (hpre c))).symm

theorem claim : Cert.Claim :=
  ⟨Cert.Kernel.Gen.facts, Cert.KernelIdeal.Gen.facts, Cert.ReferenceIdeal.Gen.facts, facts_finite,
    fun m ρ _ => Cert.Kernel.Gen.frame m ρ, fun m ρ _ => Cert.KernelIdeal.Gen.frame m ρ,
    fun m ρ _ => Cert.KernelIdeal.Gen.frame m ρ, fun m ρ _ => RefRun.frame m ρ, fun m ρ _ => RefRun.frame m ρ,
    trivial, algebraic⟩

end Cert.Proof

end
